-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ragged [hPre_ragged : Cert.Pre_ragged.Facts] (m : (ℓ : Loc Cert.KernelIdeal.nD Cert.KernelIdeal.τ Cert.KernelIdeal.sig) → Buf (Elt Ideal) ℓ) : Prop :=
  ∀ c : Dev Cert.KernelIdeal.nD,
    (Cert.Pre_ragged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ragged [hPre_ragged : Cert.Pre_ragged.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ragged.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ragged [hKernelIdeal : Cert.KernelIdeal.Facts] [hPre_ragged : Cert.Pre_ragged.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ragged m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ragged [hReferenceIdeal : Cert.ReferenceIdeal.Facts] [hPre_ragged : Cert.Pre_ragged.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ragged m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ragged [hKernelIdeal : Cert.KernelIdeal.Facts] [hReferenceIdeal : Cert.ReferenceIdeal.Facts] [hPre_ragged : Cert.Pre_ragged.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ragged m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ragged : Cert.Pre_ragged.Facts),
    quiescent_Kernel (hKernel := hKernel)
    ∧ quiescent_KernelIdeal (hKernelIdeal := hKernelIdeal)
    ∧ quiescent_KernelIdeal_pre_ragged (hKernelIdeal := hKernelIdeal) (hPre_ragged := hPre_ragged)
    ∧ quiescent_ReferenceIdeal (hReferenceIdeal := hReferenceIdeal)
    ∧ quiescent_ReferenceIdeal_pre_ragged (hReferenceIdeal := hReferenceIdeal) (hPre_ragged := hPre_ragged)
    ∧ preserves_Kernel_KernelIdeal
    ∧ algebraic_KernelIdeal_ReferenceIdeal_pre_ragged (hKernelIdeal := hKernelIdeal) (hReferenceIdeal := hReferenceIdeal) (hPre_ragged := hPre_ragged)
-- ==== Pre_ragged.lean ====
abbrev S32768x1024 : Shape := ⟨2, ![32768, 1024]⟩
abbrev S16 : Shape := ⟨1, ![16]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S32768x1024 .f32) (main_arg1 : IVec S16 32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_c_0 : IVec S_ 32 := constantI S_ 32 1#32
  let main_v4 : IVec S16 32 := broadcastInDim S16 ![] bcast_S_S16 main_c_0
  let main_v5 : IVec S16 1 := cmpi .sge main_arg1 main_v4
  let main_c_1 : IVec S_ 1 := constantI S_ 1 1#1
  let main_v6 : IVec S_ 1 := (fun x v => Host.reduce IntOp.andi x v reducesTo_S16_S_d0 h_S_) main_v5 main_c_1
  let main_v7 : IVec S_ 1 := andi main_v3 main_v6
  let main_c_2 : IVec S_ 32 := constantI S_ 32 32768#32
  let main_v8 : IVec S16 32 := broadcastInDim S16 ![] bcast_S_S16 main_c_2
  let main_v9 : IVec S16 1 := cmpi .sle main_arg1 main_v8
  let main_c_3 : IVec S_ 1 := constantI S_ 1 1#1
  let main_v10 : IVec S_ 1 := (fun x v => Host.reduce IntOp.andi x v reducesTo_S16_S_d0 h_S_) main_v9 main_c_3
  let main_v11 : IVec S_ 1 := andi main_v7 main_v10
  let main_c_4 : IVec S_ 32 := constantI S_ 32 0#32
  let main_v12 : IVec S_ 32 := (fun x v => Host.reduce IntOp.addi x v reducesTo_S16_S_d0 h_S_) main_arg1 main_c_4
  let main_c_5 : IVec S_ 32 := constantI S_ 32 32768#32
  let main_v13 : IVec S_ 1 := cmpi .sle main_v12 main_c_5
  let main_v14 : IVec S_ 1 := andi main_v11 main_v13
  main_v14
-- ==== Kernel.lean ====
abbrev S32768x1024 : Shape := ⟨2, ![32768, 1024]⟩
abbrev S16 : Shape := ⟨1, ![16]⟩
abbrev S_ : Shape := ⟨0, ![]⟩
abbrev S16x1024 : Shape := ⟨2, ![16, 1024]⟩
abbrev S512x1024 : Shape := ⟨2, ![512, 1024]⟩
abbrev S1x512 : Shape := ⟨2, ![1, 512]⟩
abbrev S1 : Shape := ⟨1, ![1]⟩
abbrev S16x512 : Shape := ⟨2, ![16, 512]⟩

abbrev nBuf : Space → Nat
  | .hbm => 5
  | .vmem => 3
  | .smem => 2
  | _ => 0

abbrev bufTy : (tb : Table) → Fin (tcTables nBuf tb) → BufTy
  | .hbm, ⟨0, _⟩ => ⟨S32768x1024, .f32⟩
  | .hbm, ⟨1, _⟩ => ⟨S16, .i32⟩
  | .hbm, ⟨2, _⟩ => ⟨S_, .i32⟩
  | .hbm, ⟨3, _⟩ => ⟨S_, .i32⟩
  | .hbm, ⟨4, _⟩ => ⟨S16x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .smem, ⟨0, _⟩ => ⟨S16, .i32⟩
  | .local _ .smem, ⟨1, _⟩ => ⟨S16, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_c : Ref sig .tc := ⟨.hbm, 2, rfl⟩
abbrev main_call0_call0_v0 : Ref sig .tc := ⟨.hbm, 3, rfl⟩
abbrev main_v2 : Ref sig .tc := ⟨.hbm, 4, rfl⟩
abbrev main_v1 : Ref sig .tc := ⟨.smem, 0, rfl⟩
abbrev main_v0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_v1.idx, main_v0.idx], fun | 0 => main_v1.names | 1 => main_v0.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v215 : BitVec 1 := Scalar.cmpi .eq arg0 c0_i32
  let v216 : BitVec 32 := Scalar.extui v215
  let c0_i32_50 : BitVec 32 := 0#32
  let v217 : BitVec 1 := Scalar.cmpi .ne v216 c0_i32_50
  v217

def k0_cond2 (i : grid0.Coords) : BitVec 1 :=
  let arg0 : BitVec 32 := BitVec.ofNat 32 (i 0).val
  let c0_i32_51 : BitVec 32 := 0#32
  let v218 : BitVec 1 := Scalar.cmpi .sgt arg0 c0_i32_51
  let v219 : BitVec 32 := Scalar.extui v218
  let c0_i32_52 : BitVec 32 := 0#32
  let v220 : BitVec 1 := Scalar.cmpi .ne v219 c0_i32_52
  v220

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S32768x1024 : Shape := ⟨2, ![32768, 1024]⟩
abbrev S16 : Shape := ⟨1, ![16]⟩
abbrev S_ : Shape := ⟨0, ![]⟩
abbrev S1 : Shape := ⟨1, ![1]⟩
abbrev S15 : Shape := ⟨1, ![15]⟩
abbrev S16x1 : Shape := ⟨2, ![16, 1]⟩
abbrev S16x1024 : Shape := ⟨2, ![16, 1024]⟩

abbrev nBuf : Space → Nat
  | .hbm => 48
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16, .i32⟩
  | .hbm, ⟨2, _⟩ => ⟨S_, .f32⟩
  | .hbm, ⟨3, _⟩ => ⟨S_, .f32⟩
  | .hbm, ⟨4, _⟩ => ⟨S32768x1024, .f32⟩
  | .hbm, ⟨5, _⟩ => ⟨S_, .i32⟩
  | .hbm, ⟨6, _⟩ => ⟨S_, .i32⟩
  | .hbm, ⟨7, _⟩ => ⟨S16, .i32⟩
  | .hbm, ⟨8, _⟩ => ⟨S_, .i32⟩
  | .hbm, ⟨9, _⟩ => ⟨S1, .i32⟩
  | .hbm, ⟨10, _⟩ => ⟨S15, .i32⟩
  | .hbm, ⟨11, _⟩ => ⟨S16, .i32⟩
  | .hbm, ⟨12, _⟩ => ⟨S_, .i32⟩
  | .hbm, ⟨13, _⟩ => ⟨S16, .i32⟩
  | .hbm, ⟨14, _⟩ => ⟨S16, .i32⟩
  | .hbm, ⟨15, _⟩ => ⟨S_, .i32⟩
  | .hbm, ⟨16, _⟩ => ⟨S16, .i32⟩
  | .hbm, ⟨17, _⟩ => ⟨S16, .i1⟩
  | .hbm, ⟨18, _⟩ => ⟨S_, .i32⟩
  | .hbm, ⟨19, _⟩ => ⟨S16, .i32⟩
  | .hbm, ⟨20, _⟩ => ⟨S16, .i32⟩
  | .hbm, ⟨21, _⟩ => ⟨S16, .i32⟩
  | .hbm, ⟨22, _⟩ => ⟨S16x1, .i32⟩
  | .hbm, ⟨23, _⟩ => ⟨S16x1024, .f32⟩
  | .hbm, ⟨24, _⟩ => ⟨S_, .i32⟩
  | .hbm, ⟨25, _⟩ => ⟨S16, .i32⟩
  | .hbm, ⟨26, _⟩ => ⟨S16, .i1⟩
  | .hbm, ⟨27, _⟩ => ⟨S_, .i32⟩
  | .hbm, ⟨28, _⟩ => ⟨S16, .i32⟩
  | .hbm, ⟨29, _⟩ => ⟨S16, .i32⟩
  | .hbm, ⟨30, _⟩ => ⟨S16, .i32⟩
  | .hbm, ⟨31, _⟩ => ⟨S16x1, .i32⟩
  | .hbm, ⟨32, _⟩ => ⟨S16x1024, .f32⟩
  | .hbm, ⟨33, _⟩ => ⟨S16x1024, .f32⟩
  | .hbm, ⟨34, _⟩ => ⟨S_, .i32⟩
  | .hbm, ⟨35, _⟩ => ⟨S16, .i32⟩
  | .hbm, ⟨36, _⟩ => ⟨S16, .i1⟩
  | .hbm, ⟨37, _⟩ => ⟨S_, .i32⟩
  | .hbm, ⟨38, _⟩ => ⟨S16, .i32⟩
  | .hbm, ⟨39, _⟩ => ⟨S16, .i32⟩
  | .hbm, ⟨40, _⟩ => ⟨S16, .i32⟩
  | .hbm, ⟨41, _⟩ => ⟨S16x1, .i32⟩
  | .hbm, ⟨42, _⟩ => ⟨S16x1024, .f32⟩
  | .hbm, ⟨43, _⟩ => ⟨S16x1024, .f32⟩
  | .hbm, ⟨44, _⟩ => ⟨S16x1, .i32⟩
  | .hbm, ⟨45, _⟩ => ⟨S16x1, .f32⟩
  | .hbm, ⟨46, _⟩ => ⟨S16x1024, .f32⟩
  | .hbm, ⟨47, _⟩ => ⟨S16x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_cst : Ref sig .tc := ⟨.hbm, 2, rfl⟩
abbrev main_call0_call0_v0 : Ref sig .tc := ⟨.hbm, 3, rfl⟩
abbrev main_v0 : Ref sig .tc := ⟨.hbm, 4, rfl⟩
abbrev main_call1_call0_c : Ref sig .tc := ⟨.hbm, 5, rfl⟩
abbrev main_call1_call0_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Proof.Setup.lean ====
/-
  The launch of the idealized kernel, set up for a proof that names what the kernel leaves: the host operations before
  the launch, the two tables the kernel is handed, the schedule of its two windows, and the branch conditions of its
  body at each point.
-/
module

public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Tactic
public import Idealize.ShloMosaic.Lib.Pipeline.Covers

@[expose] public section

set_option maxRecDepth 16384

noncomputable section

namespace Cert.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (m : (ℓ : Loc nD τ sig) → Buf (Elt F) ℓ)

/-! ## The host operations before the launch -/

/-- What buffer `b` of core `c` holds when the kernel is launched: the launch memory after the running sum of the
    lengths and the subtraction. -/
abbrev atEntry (c : Dev nD) (b : Ref sig .tc) : Buf (Elt F) ((c : Thread nD τ).loc b) :=
  StableHlo.after (List.flatten [hostOps0, hostOps0_1]) (fun b => m (c, b)) b

/-- The two stretches of host operations allocate nothing. -/
theorem host_fresh : [hostOps0, hostOps0_1].Forall fun ops : List (HloOp τ sig (Elt F)) => ops.Forall fun op => op.fresh = ∅ := by
  simp only [List.Forall]; repeat' constructor

set_option maxHeartbeats 800000 in
/-- The program is the host operations and then the kernel, entered at the contents `atEntry`. -/
theorem main_enters (𝒱₀ : Variants) :
    Pipeline.HMainP (Ix := Unit) (Name := ℕ) (U := UR sig nD τ) (Lvl := ℕ) pcfgs 0 defs₀ 𝒱₀ m (main (F := F)) (atEntry m) :=
  Pipeline.hmainP_prefixes pcfgs 0 defs₀ 𝒱₀ m main [hostOps0, hostOps0_1]
    (by simp only [List.Forall]; exact ⟨hostOps0_sub, hostOps0_1_sub⟩) host_fresh main_chain

/-- The hidden states reach the kernel as launched. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-- The lengths are as launched when the kernel is entered. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The tables of starts and ends -/

/-- The two tables as the kernel finds them: the starts, the ends. -/
def tables : pre0.Contents (Elt F) := fun j => atEntry m (0 : Dev nD) (pre0.ref j)

/-- The one device's tables. -/
theorem tables_eq (c : Dev nD) (j : Fin 2) : atEntry m c (pre0.ref j) = tables m j := by
  obtain rfl : c = 0 := Subsingleton.elim _ _; rfl

/-- The kernel's index maps read no table, so any tables are admissible. -/
abbrev adm : (pcfg0 (F := F)).Adm := ⟨tables m, trivial⟩

/-- The launch at those tables. -/
abbrev cfgT : Pipeline.Cfg sig Λ₀ := cfg0 (adm m)

/-- The tables as the body is handed them. -/
abbrev startsM : Memref sig .tc .smem S16 .i32 := Memref.whole main_v1
abbrev endsM : Memref sig .tc .smem S16 .i32 := Memref.whole main_v0

/-- A table's contents on core `c`, and the half share of it that the body reads through. -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

/-- The tables' shares are the starts' and the ends'. -/
theorem tabs_eq (c : Dev nD) :
    (Pipeline.ΦT pre0 (tables m) c : sProp 𝕄) = iprop(tabPt c startsM (tables m 0) ∗ tabPt c endsM (tables m 1)) := by
  unfold Pipeline.ΦT Pipeline.prefHeld
  rw [show (Finset.univ : Finset (Fin 2)) = insert (0 : Fin 2) {(1 : Fin 2)} from by decide,
    bigSep_insert (by decide), bigSep_singleton]
  rfl

/-! ## The schedule of the windows -/

/-- The result is written back after the last point only. -/
theorem flush_out : ∀ t : Fin (cfgT m).N, ((cfgT m).win 1).flush t = true ↔ t.val % 64 = 63 :=
  (fun t => Pipeline.Window.flushOf_const cc0_transform_1 (fun _ _ => rfl) (n := 64) (by decide) rfl t :
    ∀ t : Fin grid0.N, Pipeline.Window.flushOf grid0 true cc0_transform_1 t = true ↔ t.val % 64 = 63)

/-- The staging buffers of the two windows at point `t`. -/
abbrev stX (t : Fin (cfgT m).N) : Memref sig .tc .vmem S512x1024 .f32 := spec0_0.stage ((cfgT m).slots t 0)
abbrev stO (t : Fin (cfgT m).N) : Memref sig .tc .vmem S16x1024 .f32 := spec0_1.stage ((cfgT m).slots t 1)

/-- The body as the launch calls it at point `t`. -/
abbrev bodyAt (t : Fin (cfgT m).N) : Prog (TpuEff nD τ sig (Elt F) Λ₀ .tc) PUnit :=
  cc0__pool_kernel (grid0.coords t) startsM (Memref.isWhole_whole _) endsM (Memref.isWhole_whole _)
    (spec0_0.stage ((cfgT m).slots t 0)) (hstage0_0 (((cfgT m).slots t 0).cast nbuf0_0))
    (spec0_1.stage ((cfgT m).slots t 1)) (hstage0_1 (((cfgT m).slots t 1).cast nbuf0_1))

/-- Window `w`'s block at point `t`, cut from its array as the kernel finds it. -/
def blockAt (c : Dev nD) (w : Fin (cfgT m).W) (t : Fin (cfgT m).N) :
    (((cfgT m).win w).xblock ((cfgT m).grid.coords t)).Idx → Elt F ((cfgT m).win w).elt :=
  (((cfgT m).win w).blk t).view.read (Elt F) (atEntry m c (Pipeline.arrRef spec0 w))

/-! ## The body's branches -/

/-- The first branch is taken at point 0 only. -/
theorem first_iff : ∀ t : Fin grid0.N, k0_cond1 (grid0.coords t) = 1#1 ↔ t.val = 0 := by decide +kernel

/-- The second branch is taken at every later point. -/
theorem later_iff : ∀ t : Fin grid0.N, k0_cond2 (grid0.coords t) = 1#1 ↔ 1 ≤ t.val := by decide +kernel

/-- The input's buffer is used at every point. -/
theorem live_in : ∀ t : Fin (cfgT m).N, (cfgT m).idle 0 (grid0.coords t) = false :=
  (fun _ => rfl : ∀ t : Fin grid0.N, idle0 0 (grid0.coords t) = false)

/-- So is the result's: one of the two branches stores into it. -/
theorem live_out : ∀ i : (cfgT m).grid.Coords, (cfgT m).idle 1 i = false := by
  have h : ∀ t : Fin grid0.N, idle0 1 (grid0.coords t) = false := by decide +kernel
  intro i
  obtain ⟨t, rfl⟩ := ((cfgT m).grid).coords_surjective i
  exact h t

end Cert.Pool

end
-- ==== Proof.Body.lean ====
/-
  What one point of the kernel leaves in the result's buffer: `partialSum`, the product of the sixteen weight rows with
  the block of hidden states, stored at the first point and added to what is there at the later ones.
-/
module

public import proofs.«01_k».proof.Proof.Setup
public import Idealize.ShloMosaic.Lib.VecWindow
public import Idealize.ShloMosaic.Lib.Pointwise.Index

@[expose] public section

set_option maxRecDepth 16384

noncomputable section

namespace Cert.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- One prompt's row of weights at grid point `i`: at a token the prompt `[st, en)` holds, one over its length; zero at
    any other token of the block. -/
def weightRow (i : grid0.Coords) (st en : BitVec 32) : FVec F S1x512 .f32 :=
  select (andi (cmpi .sge (k0_pay1 i) (broadcast S1x512 st)) (cmpi .slt (k0_pay1 i) (broadcast S1x512 en)))
    (broadcast S1x512 (Scalar.divf (Scalar.ofBits .f32 0x3F800000#32) (Scalar.sitofp .f32 (Scalar.subi en st))))
    (broadcast S1x512 (Scalar.ofBits .f32 0x00000000#32))

/-- Word `k` of a table. -/
abbrev word (T : S16.Idx → BitVec 32) (k : Fin 16) : BitVec 32 := T (ix1 k)

/-- The sixteen weight rows, stacked. -/
def weights (i : grid0.Coords) (st en : S16.Idx → BitVec 32) : FVec F S16x512 .f32 :=
  concatenate S16x512 0 (List.ofFn fun k : Fin 16 => ⟨S1x512, weightRow i (word st k) (word en k)⟩)
    concatenates_S1x512_S1x512_S1x512_S1x512_S1x512_S1x512_S1x512_S1x512_S1x512_S1x512_S1x512_S1x512_S1x512_S1x512_S1x512_S1x512_S16x512_d0

/-- The weights times the block of hidden states. -/
def partialSum (i : grid0.Coords) (st en : S16.Idx → BitVec 32) (x : Vec F S512x1024 .f32) : Vec F S16x1024 .f32 :=
  matmul dot_S16x512_S512x1024_S16x1024_1_0_0_1_n_n none (weights i st en) x (constant S16x1024 .f32 0x00000000#32)

/-- A load of one word of the starts reads the word at its offset. -/
theorem load_starts (c : Dev nD) (T : TabBuf (F := F) c startsM) (off : Fin 1 → ℕ) (inb : ∀ a, off a + S1.size a ≤ S16.size a)
    (h : 0 < (Rect.unit (s := S16) off S1.size inb).toLoadRect.shape.numel) :
    View.readAt (Elt F) startsM.view (Rect.unit (s := S16) off S1.size inb).toLoadRect T (Shape.Idx.first h) = word T ⟨off 0, inb 0⟩ := by
  refine congrArg T (funext fun a => ?_)
  match a with
  | ⟨0, _⟩ => exact Fin.ext (Nat.add_zero _)

/-- A load of one word of the ends reads the word at its offset. -/
theorem load_ends (c : Dev nD) (T : TabBuf (F := F) c endsM) (off : Fin 1 → ℕ) (inb : ∀ a, off a + S1.size a ≤ S16.size a)
    (h : 0 < (Rect.unit (s := S16) off S1.size inb).toLoadRect.shape.numel) :
    View.readAt (Elt F) endsM.view (Rect.unit (s := S16) off S1.size inb).toLoadRect T (Shape.Idx.first h) = word T ⟨off 0, inb 0⟩ := by
  refine congrArg T (funext fun a => ?_)
  match a with
  | ⟨0, _⟩ => exact Fin.ext (Nat.add_zero _)

/-- A load of the whole block reads what the buffer holds. -/
theorem load_block (X : Memref sig .tc .vmem S512x1024 .f32) (hX : X.IsWhole) (x : Vec F S512x1024 .f32)
    (inb : ∀ a, ![0, 0] a + S512x1024.size a ≤ S512x1024.size a) :
    View.readAt (Elt F) X.view (Rect.unit (s := S512x1024) ![0, 0] S512x1024.size inb).toLoadRect (hX.unread x) = x := by
  have h := View.readAt_eq_ld X.view (hX.unread x) (Rect.unit (s := S512x1024) ![0, 0] S512x1024.size inb)
  exact h.trans ((View.ld_unit_zero (by funext a; fin_cases a <;> rfl) inb _).trans (hX.read_unread x))

/-- A load of the whole result reads what its buffer holds. -/
theorem load_result (O : Memref sig .tc .vmem S16x1024 .f32) (hO : O.IsWhole) (d : Vec F S16x1024 .f32)
    (inb : ∀ a, ![0, 0] a + S16x1024.size a ≤ S16x1024.size a) :
    View.readAt (Elt F) O.view (Rect.unit (s := S16x1024) ![0, 0] S16x1024.size inb).toLoadRect (hO.unread d) = d := by
  have h := View.readAt_eq_ld O.view (hO.unread d) (Rect.unit (s := S16x1024) ![0, 0] S16x1024.size inb)
  exact h.trans ((View.ld_unit_zero (by funext a; fin_cases a <;> rfl) inb _).trans (hO.read_unread d))

set_option maxHeartbeats 2000000 in
/-- The body at the first point leaves the partial sum in the result's buffer, whatever the buffer held. -/
theorem body_first (c : Dev nD) (i : grid0.Coords) (X : Memref sig .tc .vmem S512x1024 .f32) (hX : X.IsWhole)
    (O : Memref sig .tc .vmem S16x1024 .f32) (hO : O.IsWhole) (h1 : k0_cond1 i = 1#1) (h2 : ¬k0_cond2 i = 1#1)
    (x : Vec F S512x1024 .f32) (st : TabBuf (F := F) c startsM) (en : TabBuf (F := F) c endsM) (E : Set ℕ) (K : PUnit → sProp 𝕄) :
    iprop(owns (c : Thread nD τ) X fullShare x ∗ (∃ d, owns (c : Thread nD τ) O fullShare d) ∗ tabPt c startsM st ∗ tabPt c endsM en
        ∗ (iprop(owns (c : Thread nD τ) X fullShare x ∗ owns (c : Thread nD τ) O fullShare (partialSum i st en x)
            ∗ tabPt c startsM st ∗ tabPt c endsM en) -∗ K ⟨⟩))
      ⊢ wp frame (wpE (defs₀ (F := F)) Variants.none c none) E
          (cc0__pool_kernel i startsM (Memref.isWhole_whole _) endsM (Memref.isWhole_whole _) X hX O hO) K := by
  simp only [cc0__pool_kernel_eq_skeleton]; unfold cc0__pool_kernel_skel
  simp only [k0_part5_eq_skeleton, k0_part1_eq_skeleton, k0_part2_eq_skeleton, k0_part3_eq_skeleton, k0_part4_eq_skeleton]
  unfold owns
  iintro ⟨⟨%f0, %hf0, H0⟩, ⟨%d1, %f1, -, H1⟩, HT0, HT1, Hk⟩
  obtain rfl := hX.eq_unread hf0
  sl_exec (disch := first | sl_exact h1 | sl_exact h2)
  sl_step
  iapply Hk
  isplitl [H0]
  · iexists _; isplitr; · ipureintro; exact hX.read_unread _
    iexact H0
  isplitl [H1]
  · iexists _; isplitr; swap; · iexact H1
    ipureintro
    refine (View.read_writes_full O.view f1 _ _ []).trans ?_
    sl_unfold_words
    exact congrArg₂ (fun w y => matmul dot_S16x512_S512x1024_S16x1024_1_0_0_1_n_n none w y (constant S16x1024 .f32 0x00000000#32))
      (by (repeat rw [load_starts c]); (repeat rw [load_ends c]); rfl) (load_block X hX x _)
  isplitl [HT0]; · iexact HT0
  iexact HT1

set_option maxHeartbeats 2000000 in
/-- The body at a later point adds the partial sum to what the result's buffer held. -/
theorem body_later (c : Dev nD) (i : grid0.Coords) (X : Memref sig .tc .vmem S512x1024 .f32) (hX : X.IsWhole)
    (O : Memref sig .tc .vmem S16x1024 .f32) (hO : O.IsWhole) (h1 : ¬k0_cond1 i = 1#1) (h2 : k0_cond2 i = 1#1)
    (x : Vec F S512x1024 .f32) (d : Vec F S16x1024 .f32) (st : TabBuf (F := F) c startsM) (en : TabBuf (F := F) c endsM) (E : Set ℕ) (K : PUnit → sProp 𝕄) :
    iprop(owns (c : Thread nD τ) X fullShare x ∗ owns (c : Thread nD τ) O fullShare d ∗ tabPt c startsM st ∗ tabPt c endsM en
        ∗ (iprop(owns (c : Thread nD τ) X fullShare x ∗ owns (c : Thread nD τ) O fullShare (addf d (partialSum i st en x))
            ∗ tabPt c startsM st ∗ tabPt c endsM en) -∗ K ⟨⟩))
      ⊢ wp frame (wpE (defs₀ (F := F)) Variants.none c none) E
          (cc0__pool_kernel i startsM (Memref.isWhole_whole _) endsM (Memref.isWhole_whole _) X hX O hO) K := by
  simp only [cc0__pool_kernel_eq_skeleton]; unfold cc0__pool_kernel_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, HT0, HT1, Hk⟩
  obtain rfl := hX.eq_unread hf0
  obtain rfl := hO.eq_unread hf1
  sl_exec (disch := first | sl_exact h1 | sl_exact h2)
  sl_step
  iapply Hk
  isplitl [H0]
  · iexists _; isplitr; · ipureintro; exact hX.read_unread _
    iexact H0
  isplitl [H1]
  · iexists _; isplitr; swap; · iexact H1
    ipureintro
    refine (View.read_writes_full O.view _ _ _ []).trans ?_
    sl_unfold_words
    refine congrArg₂ (fun (y z : FVec F S16x1024 .f32) => addf y z) ?_ ?_
    · exact (shapeCast_self _ _).trans (load_result O hO d _)
    · exact congrArg₂ (fun w y => matmul dot_S16x512_S512x1024_S16x1024_1_0_0_1_n_n none w y (constant S16x1024 .f32 0x00000000#32))
        (by (repeat rw [load_starts c]); (repeat rw [load_ends c]); rfl) (load_block X hX x _)
  isplitl [HT0]; · iexact HT0
  iexact HT1

end Cert.Pool

end
-- ==== Proof.Run.lean ====
/-
  The kernel's run: after each point the result's buffer holds the sum of the partial sums of the points so far
  (`soFar`), and the result array ends at the last of these. The run leaves the arguments as they were and every
  semaphore counter at zero.
-/
module

public import proofs.«01_k».proof.Proof.Body
public import Idealize.ShloMosaic.Lib.Pipeline.ValueKit
public import Idealize.ShloMosaic.Lib.Claim

@[expose] public section

set_option maxRecDepth 16384

noncomputable section

namespace Cert.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the result's buffer holds -/

/-- The partial sum that point `t` computes. -/
def pointSum (c : Dev nD) (t : Fin (cfgT m).N) : Vec F S16x1024 .f32 :=
  partialSum (grid0.coords t) (tables m 0) (tables m 1) (blockAt m c 0 t)

/-- The result's buffer after point `n`: the first point's partial sum, and every later one added. -/
def soFar (c : Dev nD) : (n : ℕ) → n < (cfgT m).N → Vec F S16x1024 .f32
  | 0, h => pointSum m c ⟨0, h⟩
  | n + 1, h => addf (soFar c n (Nat.lt_of_succ_lt h)) (pointSum m c ⟨n + 1, h⟩)

/-- The proof data of the launch: the arrays as the kernel finds them; after point `t` the input's buffer at its block
    and the result's at the sum so far. -/
def dats (_ : Fin 1) (c : Dev nD) : Dat τ (Elt F) Unit ℕ (UR sig nD τ) ℕ (cfgT m) c where
  A w := atEntry m c (Pipeline.arrRef spec0 w)
  after w t := match w with
    | ⟨0, _⟩ => blockAt m c 0 t
    | ⟨1, _⟩ => soFar m c t.val t.isLt
  Φ _ := iprop(Pipeline.ΦA spec0 c ∗ Pipeline.ΦT pre0 (tables m) c)
  q _ := fullShare
  owed _ := 0

theorem dats_A (c : Dev nD) (w : Fin (cfgT m).W) : (dats m 0 c).A w = atEntry m c (Pipeline.arrRef spec0 w) := by
  dsimp only [dats]

theorem after_in (c : Dev nD) (t : Fin (cfgT m).N) : (dats m 0 c).after 0 t = blockAt m c 0 t := by dsimp only [dats]; try rfl

theorem after_out (c : Dev nD) (t : Fin (cfgT m).N) : (dats m 0 c).after 1 t = soFar m c t.val t.isLt := by dsimp only [dats]; try rfl

/-- The body finds its block of hidden states. -/
theorem before_in (c : Dev nD) (t : Fin (cfgT m).N) (d) : (dats m 0 c).before 0 t d = blockAt m c 0 t :=
  ((dats m 0 c).before_in_eq_fetched 0 rfl (fun _ => rfl) (fun _ _ _ => rfl)
    (fun t => by rw [after_in]; unfold Dat.blockOf blockAt; rw [dats_A]; try rfl) t d).trans
    (by unfold Dat.fetched Dat.blockOf blockAt; rw [dats_A]; try rfl)

/-- After the first point the body finds the sum so far in the result's buffer. -/
theorem before_out (c : Dev nD) (t : Fin (cfgT m).N) (ht : t.val ≠ 0) (d) :
    (dats m 0 c).before 1 t d = soFar m c (t.val - 1) (Nat.lt_of_le_of_lt (Nat.sub_le _ _) t.isLt) := by
  have hN : t.val < 64 := lt_of_lt_of_eq t.isLt (show (cfgT m).N = 64 from N_0)
  rw [(dats m 0 c).before_out_kept 1 rfl t ht
    (Bool.eq_false_iff.mpr fun h => by have := (flush_out m _).mp h; dsimp only at this; omega) (live_out m) (fun _ _ => rfl) d, after_out]

/-- One step of the sum. -/
theorem soFar_step (c : Dev nD) (t : Fin (cfgT m).N) (ht : t.val ≠ 0) :
    soFar m c t.val t.isLt
      = addf (soFar m c (t.val - 1) (Nat.lt_of_le_of_lt (Nat.sub_le _ _) t.isLt)) (pointSum m c t) := by
  obtain ⟨n, hn⟩ := t
  cases n with
  | zero => exact absurd rfl ht
  | succ n => rfl

/-- The first of the sums. -/
theorem soFar_first (c : Dev nD) (t : Fin (cfgT m).N) (ht : t.val = 0) : soFar m c t.val t.isLt = pointSum m c t := by
  obtain ⟨n, hn⟩ := t
  obtain rfl : n = 0 := ht
  rfl

/-! ## The body at every point -/

/-- What the body is called with at point `t`. -/
def bodyPre (c : Dev nD) (t : Fin (cfgT m).N) : sProp 𝕄 :=
  iprop((dats m 0 c).Φ t.castSucc ∗ (dats m 0 c).owesAt () t.castSucc
    ∗ (∃ d, owns (c : Thread nD τ) (stX m t) fullShare ((dats m 0 c).before 0 t d))
    ∗ (∃ d, owns (c : Thread nD τ) (stO m t) fullShare ((dats m 0 c).before 1 t d)))

/-- What it returns. -/
def bodyPost (c : Dev nD) (t : Fin (cfgT m).N) : sProp 𝕄 :=
  iprop((dats m 0 c).Φ t.succ ∗ (dats m 0 c).owesAt () t.succ ∗ (dats m 0 c).leavesExact 0 t ∗ (dats m 0 c).leavesExact 1 t)

/-- The input's buffer is handed back at its block. -/
theorem leaves_in (c : Dev nD) (t : Fin (cfgT m).N) :
    (dats m 0 c).leavesExact 0 t = owns (c : Thread nD τ) (stX m t) fullShare (blockAt m c 0 t) := by
  rw [show (dats m 0 c).leavesExact 0 t = owns (c : Thread nD τ) (stX m t) fullShare ((dats m 0 c).after 0 t) from by
    unfold Dat.leavesExact; rw [live_in m t]; try rfl, after_in]

/-- The result's buffer is handed back at the sum so far. -/
theorem leaves_out (c : Dev nD) (t : Fin (cfgT m).N) :
    (dats m 0 c).leavesExact 1 t = owns (c : Thread nD τ) (stO m t) fullShare (soFar m c t.val t.isLt) := by
  rw [show (dats m 0 c).leavesExact 1 t = owns (c : Thread nD τ) (stO m t) fullShare ((dats m 0 c).after 1 t) from by
    unfold Dat.leavesExact; rw [live_out m]; try rfl, after_out]

set_option maxHeartbeats 800000 in
/-- The body at any point takes the buffers from the sum before it to the sum after it. -/
theorem body_at (c : Dev nD) (t : Fin (cfgT m).N) :
    bodyPre m c t ⊢ wp frame (wpE (defs₀ (F := F)) Variants.none c none) Set.univ (bodyAt m t) (fun _ => bodyPost m c t) := by
  unfold bodyPre bodyPost bodyAt
  rw [leaves_in, leaves_out]
  simp only [before_in]
  rw [show (dats m 0 c).Φ t.succ = (dats m 0 c).Φ t.castSucc from rfl,
    show (dats m 0 c).owesAt () t.succ = (dats m 0 c).owesAt () t.castSucc from rfl,
    show (dats m 0 c).Φ t.castSucc = iprop(Pipeline.ΦA spec0 c ∗ Pipeline.ΦT pre0 (tables m) c) from rfl, tabs_eq]
  by_cases ht : t.val = 0
  · rw [soFar_first m c t ht]
    iintro ⟨⟨HΦ, ⟨HT0, HT1⟩⟩, Ho, ⟨%d0, H0⟩, ⟨%d1, H1⟩⟩
    iapply (body_first c (grid0.coords t) _ _ _ _ ((first_iff t).mpr ht) (fun h => by have := (later_iff t).mp h; omega)
      (blockAt m c 0 t) (tables m 0) (tables m 1) Set.univ _)
    isplitl [H0]; · iexact H0
    isplitl [H1]; · iexists _; iexact H1
    isplitl [HT0]; · iexact HT0
    isplitl [HT1]; · iexact HT1
    iintro ⟨H0, H1, HT0, HT1⟩
    isplitl [HΦ HT0 HT1]
    · isplitl [HΦ]
      · iexact HΦ
      isplitl [HT0]; · iexact HT0
      iexact HT1
    isplitl [Ho]; · iexact Ho
    isplitl [H0]; · iexact H0
    iexact H1
  · rw [soFar_step m c t ht]
    simp only [before_out m c t ht]
    iintro ⟨⟨HΦ, ⟨HT0, HT1⟩⟩, Ho, ⟨%d0, H0⟩, ⟨%d1, H1⟩⟩
    iapply (body_later c (grid0.coords t) _ _ _ _ (fun h => ht ((first_iff t).mp h)) ((later_iff t).mpr (Nat.one_le_iff_ne_zero.mpr ht))
      (blockAt m c 0 t) (soFar m c (t.val - 1) (Nat.lt_of_le_of_lt (Nat.sub_le _ _) t.isLt)) (tables m 0) (tables m 1) Set.univ _)
    isplitl [H0]; · iexact H0
    isplitl [H1]; · iexact H1
    isplitl [HT0]; · iexact HT0
    isplitl [HT1]; · iexact HT1
    iintro ⟨H0, H1, HT0, HT1⟩
    isplitl [HΦ HT0 HT1]
    · isplitl [HΦ]
      · iexact HΦ
      isplitl [HT0]; · iexact HT0
      iexact HT1
    isplitl [Ho]; · iexact Ho
    isplitl [H0]; · iexact H0
    iexact H1

/-- The launch's table of bodies has this body at point `t`. -/
theorem defs_row (t : Fin (cfgT m).N) :
    defs₀ (F := F) .tc (cfgT m).body ((cfgT m).bodyArgs t ((cfgT m).slots t)) = bodyAt m t := by
  unfold defs₀; rw [Defs.onTc_tc]

/-- The launch's obligation of the body. -/
theorem obligation (c : Dev nD) : BodyObligation (dats (F := F) m 0 c) (defs₀ (F := F)) Variants.none () Set.univ := fun t => by
  rw [bigSep_W0, bigSep_W0, defs_row m]
  exact triple_restated (body_at m c t) rfl .rfl fun _ => .rfl

/-! ## The run -/

set_option backward.isDefEq.respectTransparency.types false in
/-- Every execution ends, with the arrays as the proof data say and the counters at zero. -/
theorem run : θ_run defs (onTc (τ := τ) (main (F := F))) (s₀ m ρ)
    (fun r => Pipeline.FramePost (Pipeline.pin pcfgs fun _ => adm m) (dats m) 0 (atEntry m) r ∧ r.2.sem = fun _ => 0) :=
  Pipeline.θ_run_frameP (Q' := _) pcfgs (fun _ => adm m) (dats m) (0 : Fin 1) launch0 defs₀ Variants.none m ρ main
    (hbody := fun c => (obligation m c).loose) (hshare := fun c => (dats m 0 c).share_full fun _ => rfl)
    (howed := fun _ _ => rfl) (V := atEntry m) (hmain := main_enters m Variants.none) (hA := dats_A m) (hpf := tables_eq m)
    (hΦ := fun _ _ => rfl)

/-- The last point. -/
abbrev lastPoint : Fin (cfgT m).N := ⟨63, by rw [show (cfgT m).N = 64 from N_0]; omega⟩

/-- What the result array holds when the kernel has ended. -/
def result (c : Dev nD) : Vec F S16x1024 .f32 := soFar m c 63 (lastPoint m).isLt

/-- The last point's write-back is the only one, and it covers the array. -/
theorem whole_out : ((cfgT m).win 1).WholeAt (lastPoint m) := by
  refine ⟨(flush_out m _).mpr rfl, fun t h => Fin.ext ?_, fun a => ?_⟩
  · have hN : t.val < 64 := lt_of_lt_of_eq t.isLt (show (cfgT m).N = 64 from N_0)
    have := (flush_out m t).mp h
    dsimp only
    omega
  · match a with
    | ⟨0, _⟩ => exact ⟨rfl, rfl⟩
    | ⟨1, _⟩ => exact ⟨rfl, rfl⟩

/-- So the result array ends at the last of the sums. -/
theorem arr_out (c : Dev nD) : (dats m 0 c).arrAt 1 (cfgT m).N = result m c := by
  refine (dats m 0 c).arrAt_eq_of_after_last 1 (lastPoint m) (whole_out m) _ fun j => ?_
  blk_simp
  rw [after_out]
  rfl

/-- The kernel ends with its result at `result`, its arguments as they were, and the counters at zero. -/
theorem ends : θ_run defs (onTc (τ := τ) (main (F := F))) ⟨m, fun _ => 0, ρ⟩ (fun r =>
    (∀ c : Dev nD, r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun r (h : _ ∧ _) => ⟨fun c => ⟨((h.1 c).1 1).trans (arr_out m c),
      ((h.1 c).1 0).trans (((dats m 0 c).arrAt_in 0 rfl _).trans ((dats_A m c 0).trans (atEntry_arg0 m c))),
      ((h.1 c).2 main_arg1 (by decide : main_arg1 ∈ Pipeline.restRefs sig spec0)).trans (atEntry_arg1 m c)⟩, h.2⟩) (run m ρ)

end Cert.Pool

end
-- ==== Proof.Same.lean ====
/-
  The kernel and its idealization are one program: no operation of the kernel is rewritten. A run of the one is a run
  of the other, at any float instance.
-/
module

public import proofs.«01_k».proof.Kernel
public import proofs.«01_k».proof.KernelIdeal

@[expose] public section

noncomputable section

namespace Cert.Pool

open Idealize.ShloMosaic Idealize.ShloMosaic.TcCoe Idealize.SL.Sem

variable {F : FTy → Type} [FloatOps F] [hk : Cert.Kernel.Facts] [hi : Cert.KernelIdeal.Facts]

/-- The two programs' main functions are the same. -/
theorem main_same : @Cert.Kernel.main F _ hk = @Cert.KernelIdeal.main F _ hi := rfl

/-- So are the tables of their kernels' bodies. -/
theorem bodies_same : @Cert.Kernel.defs₀ F _ hk = @Cert.KernelIdeal.defs₀ F _ hi := by
  refine congrArg (Defs.onTc (nD := Cert.Kernel.nD) (τ := Cert.Kernel.τ) (sig := Cert.Kernel.sig) (Λ := Cert.Kernel.Λ₀)
    (Val := Elt F)) (funext fun l => funext fun x => ?_)
  obtain ⟨_ | n, h⟩ := l
  · obtain ⟨t, s⟩ := x
    rfl
  · exact absurd h (Nat.not_lt.2 (Nat.le_add_left _ _))

/-- So are the tables of everything they call. -/
theorem defs_same : @Cert.Kernel.defs F _ hk = @Cert.KernelIdeal.defs F _ hi :=
  congrArg (Pipeline.defs (Cert.Kernel.pcfgs (F := F))) bodies_same

end Cert.Pool

end
-- ==== Proof.Frames.lean ====
/-
  The claims that need no value: each of the three programs ends, with its arguments as they were and every semaphore
  counter at zero.
-/
module

public import proofs.«01_k».proof.Defs
public import proofs.«01_k».proof.Proof.Run
public import proofs.«01_k».proof.Proof.Same
public import proofs.«01_k».proof.Proof.Gen.Kernel
public import proofs.«01_k».proof.Proof.Gen.ReferenceIdeal.Run
public import proofs.«01_k».proof.Proof.Gen.Pre_ragged
public import Idealize.ShloMosaic.Lib.Quiescent

@[expose] public section

noncomputable section

namespace Cert.Pool

open Idealize.ShloMosaic Idealize.ShloMosaic.TcCoe Idealize.SL.Sem

/-- The kernel at its own precision runs to its end. -/
theorem frame_kernel : Cert.quiescent_Kernel := fun m ρ _ => by
  rw [defs_same, main_same]
  exact (θ_run Cert.KernelIdeal.defs _ _).mono (fun _ h => ⟨fun c => (h.1 c).2, h.2⟩) (ends (F := Bits) m ρ)

/-- The kernel in exact arithmetic runs to its end. -/
theorem frame_ideal : Cert.quiescent_KernelIdeal := fun m ρ _ =>
  (θ_run Cert.KernelIdeal.defs _ _).mono (fun _ h => ⟨fun c => (h.1 c).2, h.2⟩) (ends (F := Ideal) m ρ)

/-- So it does where the precondition holds. -/
theorem frame_ideal_pre : Cert.quiescent_KernelIdeal_pre_ragged := fun m ρ _ =>
  (θ_run Cert.KernelIdeal.defs _ _).mono (fun _ h => ⟨fun c => (h.1 c).2, h.2⟩) (ends (F := Ideal) m ρ)

/-- The reference runs to its end; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So it does where the precondition holds. -/
theorem frame_reference_pre : Cert.quiescent_ReferenceIdeal_pre_ragged := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Pool

end
-- ==== Proof.Lens.lean ====
/-
  The prompts as numbers: `len L k` tokens in prompt `k`, the first `n` prompts filling `upTo L n` tokens. The running
  sum of the length words holds the ends, and less the lengths it holds the starts, neither wrapping.
-/
module

public import Idealize.ShloMosaic.Lib.Routing.Ops
public import Idealize.ShloMosaic.Lib.StableHlo.Predicate
public import Mathlib.Algebra.BigOperators.Fin

@[expose] public section

namespace Cert.Pool

open Idealize.ShloMosaic Idealize.ShloMosaic.Routing Idealize.ShloMosaic.ValueIdx

/-- The length of prompt `k` (0 past the last prompt). -/
def len (L : IVec (shape1 16) 32) (k : ℕ) : ℕ := if h : k < 16 then (L (ix1 ⟨k, h⟩)).toNat else 0

/-- The tokens that the first `n` prompts fill: where prompt `n` starts. -/
def upTo (L : IVec (shape1 16) 32) (n : ℕ) : ℕ := ((List.range n).map (len L)).sum

variable (L : IVec (shape1 16) 32)

theorem word_eq (k : Fin 16) : L (ix1 k) = BitVec.ofNat 32 (len L k) := by
  unfold len
  rw [dif_pos k.isLt, BitVec.ofNat_toNat, BitVec.setWidth_eq]

theorem upTo_succ (n : ℕ) : upTo L (n + 1) = upTo L n + len L n := by
  unfold upTo
  rw [List.range_succ, List.map_append, List.sum_append, List.map_singleton, List.sum_singleton]

theorem upTo_zero : upTo L 0 = 0 := rfl

theorem upTo_mono {a b : ℕ} (h : a ≤ b) : upTo L a ≤ upTo L b := by
  induction b, h using Nat.le_induction with
  | base => exact le_rfl
  | succ n _ ih => rw [upTo_succ]; omega

/-- No prompt is empty, and together they fit the 32768 tokens. -/
structure Fits : Prop where
  pos : ∀ k : Fin 16, 1 ≤ len L k
  total : upTo L 16 ≤ 32768

variable {L}

theorem Fits.end_le (h : Fits L) (k : Fin 16) : upTo L (k.val + 1) ≤ 32768 := (upTo_mono L (by omega)).trans h.total

theorem Fits.start_lt (h : Fits L) (k : Fin 16) : upTo L k < upTo L (k.val + 1) := by
  have := h.pos k
  rw [upTo_succ]; omega

variable (L)

/-- The ends, as the program prints them. -/
theorem ends_word (init : IVec shape0 32) (hinit : init ix0 = 0#32)
    (h : (shape1 16).ReduceWindows (![16] : Fin 1 → Nat) ![1] ![15] ![0] (shape1 16)) (hu : 0 < shape0.numel) (k : Fin 16) :
    Host.reduceWindow IntOp.addi ![16] ![1] ![15] ![0] L init h hu (ix1 k) = BitVec.ofNat 32 (upTo L (k.val + 1)) :=
  cumsum1 (N := 16) (Nm1 := 15) rfl L (len L) (word_eq L) init hinit h hu k

/-- A word holding `a + b` less one holding `b` holds `a`. -/
theorem ofNat_sub (a b : ℕ) : BitVec.ofNat 32 (a + b) - BitVec.ofNat 32 b = BitVec.ofNat 32 a := by
  rw [BitVec.ofNat_add, BitVec.add_sub_cancel]

/-- The starts, as the kernel's program computes them: the ends less the lengths. -/
theorem starts_word (init : IVec shape0 32) (hinit : init ix0 = 0#32)
    (h : (shape1 16).ReduceWindows (![16] : Fin 1 → Nat) ![1] ![15] ![0] (shape1 16)) (hu : 0 < shape0.numel) (k : Fin 16) :
    subi (Host.reduceWindow IntOp.addi ![16] ![1] ![15] ![0] L init h hu) L (ix1 k) = BitVec.ofNat 32 (upTo L k) := by
  show Host.reduceWindow IntOp.addi ![16] ![1] ![15] ![0] L init h hu (ix1 k) - L (ix1 k) = _
  rw [ends_word L init hinit, word_eq L k, upTo_succ, ofNat_sub]

end Cert.Pool

end
-- ==== Proof.Tables.lean ====
/-
  What the kernel is handed: in its tables the starts and the ends of the prompts, and at point `t` the 512 rows of the
  hidden states from row `512 t`.
-/
module

public import proofs.«01_k».proof.Proof.Setup
public import proofs.«01_k».proof.Proof.Lens
public import Idealize.ShloMosaic.Lib.StableHlo.Run
public import Idealize.ShloMosaic.Lib.Pipeline.ValueKit

@[expose] public section

set_option maxRecDepth 16384

noncomputable section

namespace Cert.Pool

open Cert.KernelIdeal Cert.KernelIdeal.Gen
open Idealize.ShloMosaic Idealize.ShloMosaic.TcCoe Idealize.ShloMosaic.Routing Idealize.ShloMosaic.StableHlo
open Idealize.SL.Sem

variable {F : FTy → Type} [FloatOps F]

variable (m : (ℓ : Loc nD τ sig) → Buf (Elt F) ℓ)

/-- The lengths as launched. -/
abbrev lens (c : Dev nD) : IVec S16 32 := m ((c : Thread nD τ).loc main_arg1)

/-- The table of ends is the running sum of the lengths. -/
theorem ends_table : tables m 1 = Host.reduceWindow IntOp.addi ![16] ![1] ![15] ![0] (lens m 0)
    (broadcastInDim S_ ![] Facts₀.bcast_S_S_ (constantI S_ 32 0#32)) Facts₀.reduceWindows_S16_S16_w16s1p15_0 Facts₀.h_S_ := by
  show StableHlo.after (List.flatten [hostOps0, hostOps0_1]) (fun b => m ((0 : Dev nD), b)) (main_v0 : Ref sig .tc) = _
  simp only [hostOps0, hostOps0_1, List.flatten_cons, List.flatten_nil, List.append_nil, List.cons_append, List.nil_append,
    TRef.binary, TRef.nullary, TRef.unary, TRef.toBuf, TRef.ofBuf, cast_eq]
  after_results_simp <;> rfl

/-- The table of starts is the ends less the lengths. -/
theorem starts_table : tables m 0 = subi (Host.reduceWindow IntOp.addi ![16] ![1] ![15] ![0] (lens m 0)
    (broadcastInDim S_ ![] Facts₀.bcast_S_S_ (constantI S_ 32 0#32)) Facts₀.reduceWindows_S16_S16_w16s1p15_0 Facts₀.h_S_) (lens m 0) := by
  show StableHlo.after (List.flatten [hostOps0, hostOps0_1]) (fun b => m ((0 : Dev nD), b)) (main_v1 : Ref sig .tc) = _
  simp only [hostOps0, hostOps0_1, List.flatten_cons, List.flatten_nil, List.append_nil, List.cons_append, List.nil_append,
    TRef.binary, TRef.nullary, TRef.unary, TRef.toBuf, TRef.ofBuf, cast_eq]
  after_results_simp <;> rfl

/-- Entry `k` of the ends. -/
theorem ends_entry (k : Fin 16) : (tables m 1 : IVec S16 32) (ValueIdx.ix1 k) = BitVec.ofNat 32 (upTo (lens m 0) (k.val + 1)) :=
  (congrFun (ends_table m) _).trans (ends_word (lens m 0) _ rfl _ _ k)

/-- Entry `k` of the starts. -/
theorem starts_entry (k : Fin 16) : (tables m 0 : IVec S16 32) (ValueIdx.ix1 k) = BitVec.ofNat 32 (upTo (lens m 0) k) :=
  (congrFun (starts_table m) _).trans (starts_word (lens m 0) _ rfl _ _ k)

/-- The grid's one coordinate is the point. -/
theorem coord_val : ∀ t : Fin grid0.N, (grid0.coords t 0).val = t.val := by decide +kernel

/-- The input's index map at point `t` names block row `t`. -/
theorem window_row : ∀ t : Fin grid0.N, cc0_transform_0 (grid0.coords t) 0 = t.val := by decide +kernel

/-- The block of hidden states that point `t` is handed. -/
abbrev rowsAt (c : Dev nD) (t : Fin (cfgT m).N) : Vec F S512x1024 .f32 := blockAt m c 0 t

/-- Row `l` of the block at point `t` is row `512 t + l` of the hidden states. -/
theorem block_entry (c : Dev nD) (t : Fin (cfgT m).N) (l : Fin 512) (d : Fin 1024) (h : t.val * 512 + l.val < 32768) :
    rowsAt m c t (ValueIdx.ix2 l d)
      = (m ((c : Thread nD τ).loc main_arg0) : Vec F S32768x1024 .f32) (ValueIdx.ix2 ⟨t.val * 512 + l.val, h⟩ d) := by
  show atEntry m c main_arg0 ((((cfgT m).win 0).blk t).view.emb (ValueIdx.ix2 l d)) = _
  rw [atEntry_arg0]
  refine congrArg (m ((c : Thread nD τ).loc main_arg0)) (funext fun a => Fin.ext ?_)
  match a with
  | ⟨0, _⟩ =>
    blk_simp
    exact congrArg (fun n => n * 512 + l.val) (window_row t)
  | ⟨1, _⟩ =>
    blk_simp
    exact (congrArg (· + d.val) (Nat.zero_mul 1024)).trans (Nat.zero_add _)

end Cert.Pool

end
-- ==== Proof.Value.lean ====
/-
  What the kernel computes, at exact arithmetic: for prompt `s`, the sum over all rows of the row's weight times the row,
  the weight being one over the prompt's length in the prompt and zero outside it.
-/
module

public import proofs.«01_k».proof.Proof.Run
public import proofs.«01_k».proof.Proof.Tables
public import Idealize.ShloMosaic.Lib.MatmulPlain
public import Idealize.ShloMosaic.Lib.IdealHost

@[expose] public section

set_option maxRecDepth 16384

noncomputable section

namespace Cert.Pool

open Cert.KernelIdeal Cert.KernelIdeal.Gen
open Idealize.ShloMosaic Idealize.ShloMosaic.TcCoe Idealize.ShloMosaic.Routing
open Idealize.ShloMosaic.StableHlo.Predicate
open Idealize.SL.Sem

/-- The token numbers of the block at point `t`. -/
theorem token_word (t : Fin grid0.N) (l : Fin 512) :
    k0_pay1 (grid0.coords t) (ValueIdx.ix2 (0 : Fin 1) l) = BitVec.ofNat 32 (t.val * 512 + l.val) := by
  show BitVec.ofNat 32 (grid0.coords t 0).val * 512#32 + iota .tc S1x512 32 [1] _ (ValueIdx.ix2 (0 : Fin 1) l) = _
  rw [coord_val]
  rw [iota_single_apply, BitVec.ofNat_add, BitVec.ofNat_mul]

/-- A prompt's weight at a token: one over the prompt's length in the prompt, zero outside. -/
def weight (a b r : ℕ) : EReal := if a ≤ r ∧ r < b then Ideal.div 1 (((b - a : ℕ) : ℝ) : EReal) else 0

/-- A weight row at a token, the prompt's bounds being words of naturals. -/
theorem weightRow_apply (t : Fin grid0.N) (l : Fin 512) (a b : ℕ) (hab : a ≤ b) (hb : b ≤ 32768) :
    weightRow (F := Ideal) (grid0.coords t) (BitVec.ofNat 32 a) (BitVec.ofNat 32 b) (ValueIdx.ix2 (0 : Fin 1) l)
      = weight a b (t.val * 512 + l.val) := by
  have ht : t.val < 64 := lt_of_lt_of_eq t.isLt N_0
  have hl := l.isLt
  show Scalar.select (IntOp.andi (IntOp.cmpi .sge (k0_pay1 (grid0.coords t) (ValueIdx.ix2 (0 : Fin 1) l)) (BitVec.ofNat 32 a))
      (IntOp.cmpi .slt (k0_pay1 (grid0.coords t) (ValueIdx.ix2 (0 : Fin 1) l)) (BitVec.ofNat 32 b)))
    (Ideal.div (Ideal.ofBits .f32 0x3F800000#32) (((BitVec.ofNat 32 b - BitVec.ofNat 32 a).toInt : ℝ) : EReal))
    (Ideal.ofBits .f32 0x00000000#32) = _
  rw [token_word, Ideal.ofBits_zero_f32, Ideal.ofBits_one_f32]
  have hd : BitVec.ofNat 32 b - BitVec.ofNat 32 a = BitVec.ofNat 32 (b - a) := by
    obtain ⟨d, rfl⟩ := Nat.exists_eq_add_of_le hab
    rw [Nat.add_comm a d, ofNat_sub, Nat.add_sub_cancel]
  rw [hd, toInt_ofNat_small _ (by omega), Int.cast_natCast]
  have hw : IntOp.andi (IntOp.cmpi .sge (BitVec.ofNat 32 (t.val * 512 + l.val)) (BitVec.ofNat 32 a))
      (IntOp.cmpi .slt (BitVec.ofNat 32 (t.val * 512 + l.val)) (BitVec.ofNat 32 b)) = 1#1
      ↔ a ≤ t.val * 512 + l.val ∧ t.val * 512 + l.val < b := by
    rw [IntOp.andi_eq_one, sge_iff_toNat (by rw [BitVec.toNat_ofNat]; omega) (by rw [BitVec.toNat_ofNat]; omega),
      slt_iff_toNat (by rw [BitVec.toNat_ofNat]; omega) (by rw [BitVec.toNat_ofNat]; omega)]
    simp only [BitVec.toNat_ofNat]
    rw [Nat.mod_eq_of_lt (by omega), Nat.mod_eq_of_lt (by omega), Nat.mod_eq_of_lt (by omega)]
  unfold weight
  by_cases hin : a ≤ t.val * 512 + l.val ∧ t.val * 512 + l.val < b
  · rw [if_pos hin]; exact if_pos (hw.2 hin)
  · rw [if_neg hin]; exact if_neg fun e => hin (hw.1 e)

/-- The stacked weights at an index. -/
theorem weights_apply (i : grid0.Coords) (st en : S16.Idx → BitVec 32) (s : Fin 16) (l : Fin 512) :
    weights (F := Ideal) i st en (ValueIdx.ix2 s l) = weightRow i (st (ValueIdx.ix1 s)) (en (ValueIdx.ix1 s)) (ValueIdx.ix2 (0 : Fin 1) l) := by
  unfold weights
  refine concatenate_ofFn_unit_eq (t := S16x512) (s₁ := S1x512) 0 _ _ _ _ rfl rfl fun n j hn h0 h1 => ?_
  obtain rfl : s = n := Fin.ext hn
  refine congrArg _ (funext fun a => ?_)
  match a with
  | ⟨0, _⟩ => exact Subsingleton.elim (α := Fin 1) _ _
  | ⟨1, _⟩ => exact Fin.ext (h1 1 (by decide))

variable (m : (ℓ : Loc nD τ sig) → Buf (Elt Ideal) ℓ)

/-- A point's product at an index: the weighted sum of the block's rows. -/
theorem pointSum_apply (c : Dev nD) (h : Fits (lens m 0)) (t : Fin (cfgT m).N) (s : Fin 16) (d : Fin 1024) :
    pointSum m c t (ValueIdx.ix2 s d)
      = ∑ l : Fin 512, weight (upTo (lens m 0) s) (upTo (lens m 0) (s.val + 1)) (t.val * 512 + l.val)
          * (rowsAt m c t : FVec Ideal S512x1024 .f32) (ValueIdx.ix2 l d) := by
  unfold pointSum partialSum
  have hm := Ideal.matmul_plain_apply (M := 16) (K := 512) (N := 1024) (φ₂ := .f32) none
    (weights (F := Ideal) (grid0.coords t) (tables m 0) (tables m 1)) (rowsAt m c t) (constant S16x1024 .f32 0x00000000#32) s d
  refine Eq.trans hm ?_
  rw [show constant (F := Ideal) S16x1024 .f32 0x00000000#32 (ValueIdx.ix2 s d) = 0 from Ideal.ofBits_zero_f32, zero_add]
  refine Finset.sum_congr rfl fun l _ => congrArg (· * _) ?_
  have h1 := h.start_lt s
  have h2 := h.end_le s
  refine (weights_apply _ _ _ s l).trans ?_
  refine (congrArg₂ (fun a b => weightRow (F := Ideal) (grid0.coords t) a b (ValueIdx.ix2 (0 : Fin 1) l)) (starts_entry m s) (ends_entry m s)).trans ?_
  exact weightRow_apply t l _ _ (by omega) h2

/-- The kernel's result at an index. -/
theorem result_apply (c : Dev nD) (h : Fits (lens m 0)) (s : Fin 16) (d : Fin 1024) (X : ℕ → EReal)
    (hX : ∀ r : Fin 32768, (m ((c : Thread nD τ).loc main_arg0) : Vec Ideal S32768x1024 .f32) (ValueIdx.ix2 r d) = X r) :
    result m c (ValueIdx.ix2 s d)
      = ∑ r ∈ Finset.range 32768, weight (upTo (lens m 0) s) (upTo (lens m 0) (s.val + 1)) r * X r := by
  have e := Pipeline.eq_sum_fin_of_reset_step_apply_last (fun n h => soFar m c n h) 64 (fun _ => (0 : EReal))
    (fun t i => pointSum m c t i)
    (fun t ht j => by
      have h0 : t.val = 0 := by have := lt_of_lt_of_eq t.isLt (show (cfgT m).N = 64 from N_0); omega
      exact (congrFun (soFar_first m c t h0) j).trans (zero_add _).symm)
    (fun t ht j => congrFun (soFar_step m c t fun h0 => ht (by rw [h0])) j)
    (le_of_eq (show (cfgT m).N = 64 from N_0)) (lastPoint m) (show (cfgT m).N = 64 from N_0).symm (ValueIdx.ix2 s d)
  refine Eq.trans e ?_
  rw [zero_add, Finset.sum_range]
  simp only [pointSum_apply m c h]
  refine Fin.sum_mul_add_congr (fun t l hl => ?_) (by rw [show (cfgT m).N = 64 from N_0])
  rw [block_entry m c t l d hl, hX]

end Cert.Pool

end
-- ==== Proof.Scan.lean ====
/-
  The running sum of the hidden states down the rows, at exact arithmetic: row `r` holds the sum of rows `0` to `r`.
-/
module

public import Idealize.ShloMosaic.Lib.Routing.OpsOne
public import Idealize.ShloMosaic.PureOps.Ideal

@[expose] public section

noncomputable section

namespace Cert.Pool

open Idealize.ShloMosaic Idealize.ShloMosaic.Routing Idealize.ShloMosaic.ValueIdx

/-- A left fold of addition adds up its list. -/
theorem foldl_add {ι M : Type} [AddCommMonoid M] (g : ι → M) (l : List ι) (z : M) :
    l.foldl (fun r a => r + g a) z = z + (l.map g).sum := by
  induction l generalizing z with
  | nil => simp
  | cons a l ih => rw [List.foldl_cons, ih, List.map_cons, List.sum_cons, add_assoc]

/-- A sum over the list of the naturals below `n` is the sum over the set. -/
theorem list_sum_range {M : Type} [AddCommMonoid M] (f : ℕ → M) (n : ℕ) : ((List.range n).map f).sum = ∑ i ∈ Finset.range n, f i := by
  induction n with
  | zero => rfl
  | succ n ih => rw [List.range_succ, List.map_append, List.sum_append, ih, List.map_singleton, List.sum_singleton, Finset.sum_range_succ]

/-- Of the `n + 1` positions of the window that ends at `j`, those before the array's head are padding and the rest are
    the entries up to `j`. -/
theorem window_sum {M : Type} [AddCommMonoid M] (f : ℕ → M) (n j : ℕ) (hj : j ≤ n) :
    (∑ w ∈ Finset.range (n + 1), if n ≤ j + w then f (j + w - n) else 0) = ∑ i ∈ Finset.range (j + 1), f i := by
  rw [← Finset.sum_filter]
  refine Finset.sum_nbij' (fun w => j + w - n) (fun i => i + n - j) ?_ ?_ ?_ ?_ ?_
  · intro w hw; simp only [Finset.mem_filter, Finset.mem_range] at hw ⊢; omega
  · intro i hi; simp only [Finset.mem_filter, Finset.mem_range] at hi ⊢; omega
  · intro w hw; simp only [Finset.mem_filter, Finset.mem_range] at hw; omega
  · intro i hi; simp only [Finset.mem_range] at hi; omega
  · intro w _; rfl

/-- A running sum of extended reals down the rows of a matrix, as a program prints it. -/
theorem scan_rows {n N C : ℕ} (hN : n + 1 = N) (x : (shape2 N C).Idx → EReal) (f : ℕ → EReal) (c : Fin C)
    (hx : ∀ i : Fin N, x (ix2 i c) = f i.val) (init : shape0.Idx → EReal) (hinit : init ix0 = 0)
    (h : (shape2 N C).ReduceWindows (![N, 1] : Fin 2 → Nat) ![1, 1] ![n, 0] ![0, 0] (shape2 N C))
    (hu : 0 < shape0.numel) (j : Fin N) :
    Host.reduceWindow (fun a b => a + b) ![N, 1] ![1, 1] ![n, 0] ![0, 0] x init h hu (ix2 j c)
      = ∑ i ∈ Finset.range (j.val + 1), f i := by
  subst hN
  have hv : init (Shape.Idx.first hu) = 0 := (congrArg init (eq_ix0 _)).trans hinit
  have hj := j.isLt
  have hc := c.isLt
  unfold Host.reduceWindow
  refine (foldl_add _ _ _).trans ?_
  rw [hv, zero_add]
  refine Eq.trans (congrArg List.sum (List.map_congr_left (g := fun p => if n ≤ j.val + p.val then f (j.val + p.val - n) else 0)
    fun p _ => ?_)) ?_
  · have hw0 : ((shape2 (n + 1) 1).rowMajor.symm p 0).val = p.val := by rw [symm_col]; rfl
    have hw1 : ((shape2 (n + 1) 1).rowMajor.symm p 1).val = 0 := by rw [symm_col]; rfl
    have hp : p.val < n + 1 := (p.cast (numel_col _)).isLt
    by_cases hin : n ≤ j.val + p.val
    · rw [if_pos hin, ← hx ⟨j.val + p.val - n, by omega⟩]
      refine (dif_pos ?_).trans (congrArg x (funext fun a => Fin.ext ?_))
      · intro a
        match a with
        | ⟨0, _⟩ =>
          show n ≤ j.val * 1 + ((shape2 (n + 1) 1).rowMajor.symm p 0).val
            ∧ j.val * 1 + ((shape2 (n + 1) 1).rowMajor.symm p 0).val - n < n + 1
          omega
        | ⟨1, _⟩ =>
          show 0 ≤ c.val * 1 + ((shape2 (n + 1) 1).rowMajor.symm p 1).val
            ∧ c.val * 1 + ((shape2 (n + 1) 1).rowMajor.symm p 1).val - 0 < C
          omega
      · match a with
        | ⟨0, _⟩ =>
          show j.val * 1 + ((shape2 (n + 1) 1).rowMajor.symm p 0).val - n = j.val + p.val - n
          omega
        | ⟨1, _⟩ =>
          show c.val * 1 + ((shape2 (n + 1) 1).rowMajor.symm p 1).val - 0 = c.val
          omega
    · rw [if_neg hin]
      refine dif_neg fun hall => hin ?_
      have h0 := (hall 0).1
      change n ≤ j.val * 1 + ((shape2 (n + 1) 1).rowMajor.symm p 0).val at h0
      omega
  · rw [map_finRange_val _ (fun p => if n ≤ j.val + p then f (j.val + p - n) else 0), numel_col, list_sum_range]
    exact window_sum f n j.val (by omega)

end Cert.Pool

end
-- ==== Proof.Reference.lean ====
/-
  What the reference computes, at exact arithmetic: for prompt `s`, the running sum at its last token less the running
  sum at its first, with the first token's row put back, over the prompt's length.
-/
module

public import proofs.«01_k».proof.Proof.Gen.ReferenceIdeal.Run
public import proofs.«01_k».proof.Proof.Lens
public import proofs.«01_k».proof.Proof.Scan
public import Idealize.ShloMosaic.Lib.Pipeline.Value
public import Idealize.ShloMosaic.Lib.IdealHost

@[expose] public section

noncomputable section

namespace Cert.Pool

open Cert.ReferenceIdeal Cert.ReferenceIdeal.Gen
open Idealize.ShloMosaic Idealize.ShloMosaic.TcCoe Idealize.ShloMosaic.Routing Idealize.ShloMosaic.ValueIdx
open Idealize.ShloMosaic.StableHlo.Predicate

/-- Row `r` of column `c` of the hidden states (0 past the last row). -/
def entry (X : (shape2 32768 1024).Idx → EReal) (c : Fin 1024) (r : ℕ) : EReal := if h : r < 32768 then X (ix2 ⟨r, h⟩ c) else 0

/-- The running sums of the hidden states. -/
def scan (X : FVec Ideal S32768x1024 .f32) : FVec Ideal S32768x1024 .f32 :=
  Host.reduceWindowAdd ![32768, 1] ![1, 1] ![32767, 0] ![0, 0] X (broadcastInDim S_ ![] Facts₀.bcast_S_S_ (constant S_ .f32 0x00000000#32))
    Facts₀.reduceWindows_S32768x1024_S32768x1024_w32768s1p32767_0_w1s1p0_0 Facts₀.h_S_

/-- The running sums of the lengths. -/
def refEnds (L : IVec S16 32) : IVec S16 32 :=
  Host.reduceWindow IntOp.addi ![16] ![1] ![15] ![0] L (broadcastInDim S_ ![] Facts₀.bcast_S_S_ (constantI S_ 32 0#32))
    Facts₀.reduceWindows_S16_S16_w16s1p15_0 Facts₀.h_S_

/-- A zero and the ends but the last. -/
def refStarts (L : IVec S16 32) : IVec S16 32 :=
  concatenate S16 0 [⟨S1, (broadcastInDim S1 ![] Facts₀.bcast_S_S1 (constantI S_ 32 0#32))⟩,
    ⟨S15, (extractStridedSlice S15 ![0] (refEnds L) Facts₀.slices_S16_S15_0)⟩] Facts₀.concatenates_S1_S15_S16_d0

/-- The ends less one. -/
def lasts (L : IVec S16 32) : IVec S16 32 := subi (refEnds L) (broadcastInDim S16 ![] Facts₀.bcast_S_S16 (constantI S_ 32 1#32))

/-- A vector of row numbers as a column, a negative one counted from the array's end. -/
def column (W : IVec S16 32) : IVec S16x1 32 :=
  broadcastInDim S16x1 ![0] Facts₀.bcast_S16_S16x1_0 (select (cmpi .slt W (broadcastInDim S16 ![] Facts₀.bcast_S_S16 (constantI S_ 32 0#32)))
    (addi W (broadcastInDim S16 ![] Facts₀.bcast_S_S16 (constantI S_ 32 32768#32))) W)

/-- The rows that a column numbers. -/
def rows (X : FVec Ideal S32768x1024 .f32) (W : IVec S16 32) : FVec Ideal S16x1024 .f32 :=
  Host.gather gather_S32768x1024_S16x1_S16x1024_1_0_n_n_0_1_11024 X (column W)

/-- The reference's result, in these terms. -/
theorem result_eq (m : (ℓ : Loc nD τ sig) → Buf (Elt Ideal) ℓ) (c : Dev nD) (X : FVec Ideal S32768x1024 .f32) (L : IVec S16 32)
    (hX : m ((c.tc : Thread nD τ).loc main_arg0) = X) (hL : m ((c.tc : Thread nD τ).loc main_arg1) = L) :
    Value.res_main_v33 m c
      = Host.divf (addf (subf (rows (scan X) (lasts L)) (rows (scan X) (refStarts L))) (rows X (refStarts L)))
          (broadcastInDim S16x1024 ![0, 1] Facts₀.bcast_S16x1_S16x1024_0_1
            (sitofp .f32 (broadcastInDim S16x1 ![0] Facts₀.bcast_S16_S16x1_0 L))) := by
  unfold Value.res_main_v33
  rw [hX, hL]
  rfl

/-- A vector as a column. -/
theorem column_apply (V : IVec S16 32) (s : Fin 16) :
    broadcastInDim S16x1 ![0] Facts₀.bcast_S16_S16x1_0 V (ix2 s (0 : Fin 1)) = V (ix1 s) := by
  refine congrArg V (funext fun a => ?_)
  match a with
  | ⟨0, _⟩ => rfl

/-- The lengths as floats, one column repeated along the rows. -/
theorem lengths_apply (L : IVec S16 32) (s : Fin 16) (c : Fin 1024) :
    broadcastInDim S16x1024 ![0, 1] Facts₀.bcast_S16x1_S16x1024_0_1
      (sitofp (F := Ideal) .f32 (broadcastInDim S16x1 ![0] Facts₀.bcast_S16_S16x1_0 L)) (ix2 s c) = (((L (ix1 s)).toInt : ℝ) : EReal) := by
  refine congrArg (fun w : BitVec 32 => ((w.toInt : ℝ) : EReal)) (Eq.trans ?_ (column_apply L s))
  refine congrArg (broadcastInDim S16x1 ![0] Facts₀.bcast_S16_S16x1_0 L) (funext fun a => ?_)
  match a with
  | ⟨0, _⟩ => rfl
  | ⟨1, _⟩ => rfl

theorem refEnds_apply (L : IVec S16 32) (s : Fin 16) : refEnds L (ix1 s) = BitVec.ofNat 32 (upTo L (s.val + 1)) :=
  ends_word L _ rfl _ _ s

theorem refStarts_apply (L : IVec S16 32) (s : Fin 16) : refStarts L (ix1 s) = BitVec.ofNat 32 (upTo L s) := by
  unfold refStarts
  obtain ⟨n, hn⟩ := s
  cases n with
  | zero => exact rfl
  | succ n =>
    refine (concatenate_pair_apply_right (t := S16) (s₁ := S1) (s₂ := S15) 0 _ _ _ (ix1 ⟨n + 1, hn⟩) rfl rfl (ix1 (⟨n, by omega⟩ : Fin 15))
      (fun b hb => absurd (Subsingleton.elim (α := Fin 1) _ _) hb) rfl).trans ?_
    refine (congrArg (refEnds L) (funext fun a => ?_)).trans (refEnds_apply L ⟨n, by omega⟩)
    match a with
    | ⟨0, _⟩ => exact Fin.ext (Nat.zero_add n)

theorem lasts_apply (L : IVec S16 32) (s : Fin 16) (h : Fits L) : lasts L (ix1 s) = BitVec.ofNat 32 (upTo L (s.val + 1) - 1) := by
  have h1 := h.start_lt s
  have h2 := h.end_le s
  exact (congrArg (· - 1#32) (refEnds_apply L s)).trans (sub_one_ofNat _ (by omega) (by omega))

/-- A row read at a number the column holds. -/
theorem rows_apply (X : FVec Ideal S32768x1024 .f32) (W : IVec S16 32) (s : Fin 16) (c : Fin 1024) (n : ℕ) (hn : n < 32768)
    (hW : W (ix1 s) = BitVec.ofNat 32 n) : rows X W (ix2 s c) = X (ix2 ⟨n, hn⟩ c) := by
  refine gather_row (nb := 32768) _ rfl rfl rfl rfl rfl X (column W) s c ⟨n, hn⟩ ?_ (by norm_num)
  refine (column_apply _ s).trans ?_
  have hneg : ¬IntOp.cmpi .slt (W (ix1 s)) 0#32 = 1#1 := by
    rw [hW, slt_iff_toNat (by rw [BitVec.toNat_ofNat]; omega) (by decide)]
    exact Nat.not_lt_zero _
  exact (if_neg hneg).trans hW

/-- The running sum at row `r`. -/
theorem scan_apply (X : FVec Ideal S32768x1024 .f32) (r : Fin 32768) (c : Fin 1024) :
    scan X (ix2 r c) = ∑ i ∈ Finset.range (r.val + 1), entry X c i := by
  unfold scan Host.reduceWindowAdd
  rw [Ideal.hostReduceWindowAdd_def]
  unfold Ideal.hostReduceWindowAdd
  exact scan_rows (n := 32767) rfl X (entry X c) c (fun i => by unfold entry; rw [dif_pos i.isLt]) _ Ideal.ofBits_zero_f32 _ _ r

/-- The reference's result for prompt `s` and column `c`. -/
theorem reference_value (m : (ℓ : Loc nD τ sig) → Buf (Elt Ideal) ℓ) (d : Dev nD) (X : FVec Ideal S32768x1024 .f32) (L : IVec S16 32)
    (hX : m ((d.tc : Thread nD τ).loc main_arg0) = X) (hL : m ((d.tc : Thread nD τ).loc main_arg1) = L) (h : Fits L)
    (s : Fin 16) (c : Fin 1024) :
    Value.res_main_v33 m d (ix2 s c)
      = Ideal.div (∑ r ∈ Finset.range (upTo L s + len L s), entry X c r - ∑ r ∈ Finset.range (upTo L s + 1), entry X c r
          + entry X c (upTo L s)) (((len L s : ℕ) : ℝ) : EReal) := by
  have h1 := h.start_lt s
  have h2 := h.end_le s
  have h3 := upTo_succ L s.val
  have h4 := h.pos s
  rw [result_eq m d X L hX hL]
  show Ideal.div (rows (scan X) (lasts L) (ix2 s c) - rows (scan X) (refStarts L) (ix2 s c) + rows X (refStarts L) (ix2 s c)) _ = _
  rw [rows_apply _ _ s c _ (by omega) (lasts_apply L s h), rows_apply _ _ s c _ (by omega) (refStarts_apply L s),
    rows_apply _ _ s c (upTo L s) (by omega) (refStarts_apply L s), scan_apply, scan_apply]
  refine congrArg₂ Ideal.div (congrArg₂ (· + ·) (congrArg₂ (· - ·) ?_ rfl) ?_) ?_
  · dsimp only
    rw [show upTo L (s.val + 1) - 1 + 1 = upTo L s + len L s by omega]
  · unfold entry; rw [dif_pos]
  · refine (lengths_apply L s c).trans ?_
    rw [word_eq L s, toInt_ofNat_small _ (by omega), Int.cast_natCast]

end Cert.Pool

end
-- ==== Proof.Equation.lean ====
/-
  The equation, over the real numbers: the sum of a prompt's rows over its length is the kernel's weighted sum of all
  rows, and the difference of two running sums, with the first row put back, over the length.
-/
module

public import Mathlib.Data.EReal.Inv
public import Mathlib.Algebra.BigOperators.Intervals
public import Idealize.ShloMosaic.PureOps.Ideal

@[expose] public section

noncomputable section

namespace Cert.Pool

open Idealize.ShloMosaic

/-- A quotient of two reals, the divisor not zero. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A sum of reals is a real. -/
theorem sum_real {ι : Type} (S : Finset ι) (g : ι → ℝ) : (∑ i ∈ S, ((g i : ℝ) : EReal)) = ((∑ i ∈ S, g i : ℝ) : EReal) := by
  classical
  induction S using Finset.induction_on with
  | empty => simp
  | insert a S ha ih => rw [Finset.sum_insert ha, Finset.sum_insert ha, ih, EReal.coe_add]

/-- The rows from `a` to before `a + l` are those before `a + l` less those up to `a`, and row `a`. -/
theorem rows_between (x : ℕ → ℝ) (N a l : ℕ) (hl : 1 ≤ l) (hN : a + l ≤ N) :
    ∑ r ∈ Finset.range N, (if a ≤ r ∧ r < a + l then 1 / (l : ℝ) else 0) * x r
      = (∑ r ∈ Finset.range (a + l), x r - ∑ r ∈ Finset.range (a + 1), x r + x a) / (l : ℝ) := by
  rw [Finset.sum_range_succ]
  have h1 : ∑ r ∈ Finset.range (a + l), x r - ∑ r ∈ Finset.range a, x r = ∑ r ∈ Finset.Ico a (a + l), x r :=
    (Finset.sum_Ico_eq_sub x (Nat.le_add_right a l)).symm
  have h2 : ∑ r ∈ Finset.range (a + l), x r - (∑ r ∈ Finset.range a, x r + x a) + x a = ∑ r ∈ Finset.Ico a (a + l), x r := by
    rw [← h1]; ring
  rw [h2, Finset.sum_div]
  simp only [ite_mul, zero_mul]
  rw [← Finset.sum_filter]
  refine Finset.sum_congr ?_ fun r _ => by ring
  ext r; simp only [Finset.mem_filter, Finset.mem_range, Finset.mem_Ico]; omega

/-- The same over the extended reals, the entries being real. -/
theorem pooled_eq (X : ℕ → EReal) (N a l : ℕ) (hX : ∀ r < N, ∃ y : ℝ, X r = y) (hl : 1 ≤ l) (hN : a + l ≤ N) :
    ∑ r ∈ Finset.range N, (if a ≤ r ∧ r < a + l then Ideal.div 1 ((l : ℝ) : EReal) else 0) * X r
      = Ideal.div (∑ r ∈ Finset.range (a + l), X r - ∑ r ∈ Finset.range (a + 1), X r + X a) ((l : ℝ) : EReal) := by
  have hl0 : (l : ℝ) ≠ 0 := by positivity
  choose! x hx using hX
  rw [show (1 : EReal) = ((1 : ℝ) : EReal) from rfl, div_real _ _ hl0]
  have hs : ∀ M ≤ N, ∑ r ∈ Finset.range M, X r = ((∑ r ∈ Finset.range M, x r : ℝ) : EReal) := fun M hM => by
    rw [← sum_real]
    exact Finset.sum_congr rfl fun r hr => hx r (lt_of_lt_of_le (Finset.mem_range.1 hr) hM)
  rw [hs _ hN, hs _ (by omega), hx a (by omega), ← EReal.coe_sub, ← EReal.coe_add, div_real _ _ hl0,
    ← rows_between x N a l hl hN, ← sum_real]
  refine Finset.sum_congr rfl fun r hr => ?_
  rw [hx r (Finset.mem_range.1 hr), EReal.coe_mul]
  congr 1
  split <;> rfl

end Cert.Pool

end
-- ==== Proof.Pre.lean ====
/-
  The precondition read back: every hidden state is a real number, no prompt is empty, and the prompts fit the tokens.
-/
module

public import proofs.«01_k».proof.Pre_ragged
public import proofs.«01_k».proof.Proof.Lens
public import Idealize.ShloMosaic.Lib.ReduceAll
public import Idealize.ShloMosaic.PureOps.Ideal

@[expose] public section

noncomputable section

namespace Cert.Pool

open Idealize.ShloMosaic Idealize.ShloMosaic.Routing Idealize.ShloMosaic.ValueIdx
open Idealize.ShloMosaic.StableHlo.Predicate

/-- The pattern of f32's infinity. -/
theorem ofBits_inf : Ideal.ofBits .f32 0x7F800000#32 = ⊤ := by simp [Ideal.ofBits, Ideal.ieee]

/-- An extended real whose absolute value is below infinity is a real number. -/
theorem real_of_abs_lt {a : EReal} (h : max a (-a) < ⊤) : ∃ r : ℝ, a = r := by
  induction a with
  | bot => simp at h
  | coe r => exact ⟨r, rfl⟩
  | top => simp at h

/-- A word between 1 and 32768 in the signed order is between them as a natural number. -/
theorem word_bounds {w : BitVec 32} (h1 : IntOp.cmpi .sge w 1#32 = 1#1) (h2 : IntOp.cmpi .sle w 32768#32 = 1#1) :
    1 ≤ w.toNat ∧ w.toNat ≤ 32768 := by
  have h1 := BitVec.sle_iff_toInt_le.1 ((ofBool_eq_one_iff _).1 h1)
  have h2 := BitVec.sle_iff_toInt_le.1 ((ofBool_eq_one_iff _).1 h2)
  have e1 : (1#32).toInt = 1 := by decide
  have e2 : (32768#32).toInt = 32768 := by decide
  have := w.isLt
  rw [e1] at h1; rw [e2] at h2
  rw [BitVec.toInt_eq_toNat_cond] at h1 h2
  split at h1 <;> omega

/-- The hidden states as real numbers, and the lengths' bounds. -/
theorem of_ragged [Cert.Pre_ragged.Facts] (X : FVec Ideal (shape2 32768 1024) .f32) (L : IVec (shape1 16) 32)
    (h : Cert.Pre_ragged.fn (F := Ideal) X L = fun _ => 1#1) :
    (∃ xr : (shape2 32768 1024).Idx → ℝ, ∀ i, X i = ((xr i : ℝ) : EReal)) ∧ Fits L := by
  have e := congrFun h ix0
  unfold Cert.Pre_ragged.fn at e
  dsimp only at e
  obtain ⟨e, e4⟩ := IntOp.andi_eq_one.1 e
  obtain ⟨e, e3⟩ := IntOp.andi_eq_one.1 e
  obtain ⟨e1, e2⟩ := IntOp.andi_eq_one.1 e
  haveI : Subsingleton shape0.Idx := ⟨fun a b => funext fun i => i.elim0⟩
  refine ⟨?_, ?_⟩
  · have hx := Host.reduce_andi_all _ _ _ _ _ e1
    have hr : ∀ i, ∃ r : ℝ, X i = r := fun i => by
      have hi : Ideal.cmp .olt (max (X i) (-X i)) (Ideal.ofBits .f32 0x7F800000#32) = 1#1 := hx i
      rw [ofBits_inf] at hi
      exact real_of_abs_lt (of_decide_eq_true ((ofBool_eq_one_iff _).1 hi))
    choose xr hxr using hr
    exact ⟨xr, hxr⟩
  · have hb : ∀ k : Fin 16, 1 ≤ len L k ∧ len L k ≤ 32768 := fun k => by
      have h2 : IntOp.cmpi .sge (L (ix1 k)) 1#32 = 1#1 := Host.reduce_andi_all _ _ _ _ _ e2 (ix1 k)
      have h3 : IntOp.cmpi .sle (L (ix1 k)) 32768#32 = 1#1 := Host.reduce_andi_all _ _ _ _ _ e3 (ix1 k)
      unfold len
      rw [dif_pos k.isLt]
      exact word_bounds h2 h3
    have hs : ∀ n ≤ 16, upTo L n ≤ n * 32768 := fun n => by
      induction n with
      | zero => intro _; exact le_rfl
      | succ n ih =>
        intro hn
        have h1 := ih (by omega)
        have h2 := (hb ⟨n, by omega⟩).2
        rw [upTo_succ]
        dsimp only at h2
        omega
    refine ⟨fun k => (hb k).1, ?_⟩
    have h4 : IntOp.cmpi .sle (Host.reduce IntOp.addi L (constantI shape0 32 0#32) Cert.Pre_ragged.Facts.reducesTo_S16_S_d0
      Cert.Pre_ragged.Facts.h_S_ ix0) 32768#32 = 1#1 := e4
    have h5 := hs 16 le_rfl
    rw [reduce_sum L (len L) (word_eq L)] at h4
    change IntOp.cmpi .sle (BitVec.ofNat 32 (upTo L 16)) (BitVec.ofNat 32 32768) = 1#1 at h4
    have h6 := (sle_iff_toNat (by rw [BitVec.toNat_ofNat]; omega) (by decide)).1 h4
    rw [BitVec.toNat_ofNat, BitVec.toNat_ofNat] at h6
    omega

end Cert.Pool

end
-- ==== Proof.Algebraic.lean ====
/-
  The value claim: at exact arithmetic the kernel and the reference end with the same array.
-/
module

public import proofs.«01_k».proof.Defs
public import proofs.«01_k».proof.Proof.Value
public import proofs.«01_k».proof.Proof.Reference
public import proofs.«01_k».proof.Proof.Equation
public import proofs.«01_k».proof.Proof.Pre
public import proofs.«01_k».proof.Proof.Gen.Pre_ragged

@[expose] public section

noncomputable section

namespace Cert.Pool

open Idealize.ShloMosaic Idealize.ShloMosaic.TcCoe Idealize.SL.Sem

/-- The two results are one array, where the hidden states are real and the prompts fit. -/
theorem values_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (X : FVec Ideal (Routing.shape2 32768 1024) .f32) (L : IVec (Routing.shape1 16) 32)
    (hX : m ((c.tc : Thread Cert.KernelIdeal.nD Cert.KernelIdeal.τ).loc Cert.KernelIdeal.main_arg0) = X)
    (hL : m ((c.tc : Thread Cert.KernelIdeal.nD Cert.KernelIdeal.τ).loc Cert.KernelIdeal.main_arg1) = L)
    (hX' : m' ((c.tc : Thread Cert.ReferenceIdeal.nD Cert.ReferenceIdeal.τ).loc Cert.ReferenceIdeal.main_arg0) = X)
    (hL' : m' ((c.tc : Thread Cert.ReferenceIdeal.nD Cert.ReferenceIdeal.τ).loc Cert.ReferenceIdeal.main_arg1) = L)
    (hr : ∃ xr : (Routing.shape2 32768 1024).Idx → ℝ, ∀ i, X i = ((xr i : ℝ) : EReal)) (h : Fits L) :
    Cert.ReferenceIdeal.Value.res_main_v33 m' c = result m c := by
  obtain rfl : c = 0 := Subsingleton.elim _ _
  obtain ⟨xr, hxr⟩ := hr
  have hlens : lens m 0 = L := hL
  funext j
  rw [ValueIdx.eq_ix2 j]
  refine (reference_value m' 0 X L hX' hL' h (j 0) (j 1)).trans (Eq.symm ?_)
  refine (result_apply m 0 (hlens.symm ▸ h) (j 0) (j 1) (entry X (j 1)) (fun r => ?_)).trans ?_
  · unfold entry
    rw [dif_pos r.isLt]
    exact congrFun hX _
  · have h1 := upTo_succ L (j 0).val
    have h2 := h.end_le (j 0)
    rw [hlens, h1]
    unfold weight
    rw [Nat.add_sub_cancel_left]
    refine pooled_eq (entry X (j 1)) 32768 _ _ (fun r hr => ?_) (h.pos (j 0)) (by omega)
    unfold entry
    rw [dif_pos hr]
    exact ⟨_, hxr _⟩

/-- Both programs run to their ends, with equal results and their arguments unchanged. -/
theorem algebraic : Cert.algebraic_KernelIdeal_ReferenceIdeal_pre_ragged := fun m ρ m' ρ' hpre hargs =>
  ⟨fun c => result m c,
    (θ_run Cert.KernelIdeal.defs _ _).mono (fun _ h => h.1) (ends (F := Ideal) m ρ),
    (θ_run Cert.ReferenceIdeal.defs _ _).mono
      (fun _ h c => ⟨(h c).1.trans (values_eq m m' c _ _ rfl rfl (hargs c).1 (hargs c).2
        (of_ragged _ _ (hpre c)).1 (of_ragged _ _ (hpre c)).2), (h c).2⟩)
      (Cert.ReferenceIdeal.Value.run (F := Ideal) m' ρ')⟩

end Cert.Pool

end
-- ==== Proof.lean ====
/-
  The claims of the ragged mean pool, put together.
-/
module

public import proofs.«01_k».proof.Defs
public import proofs.«01_k».proof.Proof.Frames
public import proofs.«01_k».proof.Proof.Algebraic

@[expose] public section

noncomputable section

namespace Cert.Proof

open Idealize.ShloMosaic Idealize.SL.Sem

/-- Every claim, over the facts the programs state. -/
theorem claim : Cert.Claim :=
  ⟨Cert.Kernel.Gen.facts, Cert.KernelIdeal.Gen.facts, Cert.ReferenceIdeal.Gen.facts, Cert.Pre_ragged.Gen.facts,
    Cert.Pool.frame_kernel, Cert.Pool.frame_ideal, Cert.Pool.frame_ideal_pre, Cert.Pool.frame_reference,
    Cert.Pool.frame_reference_pre, trivial, Cert.Pool.algebraic⟩

end Cert.Proof

end
